-- ==== Defs.lean ====
def Pre_Kernel [hPre_in_cache : Cert.Pre_in_cache.Facts] (m : (ℓ : Loc Cert.Kernel.nD Cert.Kernel.τ Cert.Kernel.sig) → Buf (Elt Bits) ℓ) : Prop :=
  ∀ c : Dev Cert.Kernel.nD,
    (Cert.Pre_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_cache : Cert.Pre_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cache [hPre_in_cache : Cert.Pre_in_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_cache : Cert.Pre_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_cache [hReferenceIdeal : Cert.ReferenceIdeal.Facts] [hPre_in_cache : Cert.Pre_in_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_cache : Cert.Pre_in_cache.Facts),
    quiescent_Kernel (hKernel := hKernel) (hPre_in_cache := hPre_in_cache)
    ∧ quiescent_KernelIdeal (hKernelIdeal := hKernelIdeal) (hPre_in_cache := hPre_in_cache)
    ∧ quiescent_ReferenceIdeal (hReferenceIdeal := hReferenceIdeal)
    ∧ quiescent_ReferenceIdeal_pre_in_cache (hReferenceIdeal := hReferenceIdeal) (hPre_in_cache := hPre_in_cache)
    ∧ preserves_Kernel_KernelIdeal
    ∧ algebraic_KernelIdeal_ReferenceIdeal (hKernelIdeal := hKernelIdeal) (hReferenceIdeal := hReferenceIdeal) (hPre_in_cache := hPre_in_cache)
-- ==== Pre_in_cache.lean ====
abbrev S4x8192x4096 : Shape := ⟨3, ![4, 8192, 4096]⟩
abbrev S4x8192 : Shape := ⟨2, ![4, 8192]⟩
abbrev S8192x128 : Shape := ⟨2, ![8192, 128]⟩
abbrev S_ : Shape := ⟨0, ![]⟩

class Facts : Prop where
  bcast_S_S4x8192 : S_.BroadcastsInDim S4x8192 (![] : Fin 0 → Fin S4x8192.rank)

variable [Facts]

def fn {F : FTy → Type} [FloatOps F] (main_arg0 : FVec F S4x8192x4096 .f32) (main_arg1 : IVec S4x8192 32) (main_arg2 : FVec F S8192x128 .f32) (main_arg3 : FVec F S8192x128 .f32) : IVec S4x8192 1 :=
  let main_c : IVec S_ 32 := constantI S_ 32 0#32
  let main_v0 : IVec S4x8192 32 := broadcastInDim S4x8192 ![] bcast_S_S4x8192 main_c
  let main_v1 : IVec S4x8192 1 := cmpi .sge main_arg1 main_v0
  let main_c_0 : IVec S_ 32 := constantI S_ 32 8192#32
  let main_v2 : IVec S4x8192 32 := broadcastInDim S4x8192 ![] bcast_S_S4x8192 main_c_0
  let main_v3 : IVec S4x8192 1 := cmpi .slt main_arg1 main_v2
  let main_v4 : IVec S4x8192 1 := andi main_v1 main_v3
  main_v4
-- ==== Kernel.lean ====
abbrev S4x8192x4096 : Shape := ⟨3, ![4, 8192, 4096]⟩
abbrev S4x8192 : Shape := ⟨2, ![4, 8192]⟩
abbrev S8192x128 : Shape := ⟨2, ![8192, 128]⟩
abbrev S256x128 : Shape := ⟨2, ![256, 128]⟩
abbrev S32768x128 : Shape := ⟨2, ![32768, 128]⟩
abbrev S8x128 : Shape := ⟨2, ![8, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S4x8192x128 : Shape := ⟨3, ![4, 8192, 128]⟩

abbrev nBuf : Table → Nat
  | .hbm => 9
  | .local .scVector .vmem => 3
  | _ => 0

abbrev bufTy : (tb : Table) → Fin (nBuf tb) → BufTy
  | .hbm, ⟨0, _⟩ => ⟨S4x8192x4096, .f32⟩
  | .hbm, ⟨1, _⟩ => ⟨S4x8192, .i32⟩
  | .hbm, ⟨2, _⟩ => ⟨S8192x128, .f32⟩
  | .hbm, ⟨3, _⟩ => ⟨S8192x128, .f32⟩
  | .hbm, ⟨4, _⟩ => ⟨S256x128, .i32⟩
  | .hbm, ⟨5, _⟩ => ⟨S32768x128, .f32⟩
  | .hbm, ⟨6, _⟩ => ⟨S32768x128, .f32⟩
  | .hbm, ⟨7, _⟩ => ⟨S4x8192x128, .f32⟩
  | .hbm, ⟨8, _⟩ => ⟨S4x8192x128, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | _, _ => ⟨S4x8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_0_scv : Ref sig .scVector := ⟨.hbm, 5, rfl⟩
abbrev main_v1_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_129_r0 : BitVec 32 := 0#32
  ![v2.toNat, 0]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v9 : BitVec 32 := Scalar.muli v1 c1024_i32
  let v10 : BitVec 32 := Scalar.addi v9 c0_i32_7
  let c0_i32_129_r1 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x4096 : Shape := ⟨3, ![4, 8192, 4096]⟩
abbrev S4x8192 : Shape := ⟨2, ![4, 8192]⟩
abbrev S8192x128 : Shape := ⟨2, ![8192, 128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4x8192, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S4x8192, .i32⟩
  | .hbm, ⟨6, _⟩ => ⟨S4x8192, .i1⟩
  | .hbm, ⟨7, _⟩ => ⟨S_, .i32⟩
  | .hbm, ⟨8, _⟩ => ⟨S4x8192, .i32⟩
  | .hbm, ⟨9, _⟩ => ⟨S4x8192, .i32⟩
  | .hbm, ⟨10, _⟩ => ⟨S4x8192, .i32⟩
  | .hbm, ⟨11, _⟩ => ⟨S4x8192x1, .i32⟩
  | .hbm, ⟨12, _⟩ => ⟨S1, .i32⟩
  | .hbm, ⟨13, _⟩ => ⟨S_, .i32⟩
  | .hbm, ⟨14, _⟩ => ⟨S4x8192x1, .i32⟩
  | .hbm, ⟨15, _⟩ => ⟨S4x8192x1, .i1⟩
  | .hbm, ⟨16, _⟩ => ⟨S1x1x1, .i32⟩
  | .hbm, ⟨17, _⟩ => ⟨S4x8192x1, .i32⟩
  | .hbm, ⟨18, _⟩ => ⟨S4x8192x1, .i1⟩
  | .hbm, ⟨19, _⟩ => ⟨S4x8192x1, .i1⟩
  | .hbm, ⟨20, _⟩ => ⟨S_, .i1⟩
  | .hbm, ⟨21, _⟩ => ⟨S4x8192, .i1⟩
  | .hbm, ⟨22, _⟩ => ⟨S4x8192x128, .f32⟩
  | .hbm, ⟨23, _⟩ => ⟨S4x8192x128, .i1⟩
  | .hbm, ⟨24, _⟩ => ⟨S_, .f32⟩
  | .hbm, ⟨25, _⟩ => ⟨S4x8192x128, .f32⟩
  | .hbm, ⟨26, _⟩ => ⟨S4x8192x128, .f32⟩
  | .hbm, ⟨27, _⟩ => ⟨S_, .i32⟩
  | .hbm, ⟨28, _⟩ => ⟨S4x8192, .i32⟩
  | .hbm, ⟨29, _⟩ => ⟨S4x8192, .i1⟩
  | .hbm, ⟨30, _⟩ => ⟨S_, .i32⟩
  | .hbm, ⟨31, _⟩ => ⟨S4x8192, .i32⟩
  | .hbm, ⟨32, _⟩ => ⟨S4x8192, .i32⟩
  | .hbm, ⟨33, _⟩ => ⟨S4x8192, .i32⟩
  | .hbm, ⟨34, _⟩ => ⟨S4x8192x1, .i32⟩
  | .hbm, ⟨35, _⟩ => ⟨S1, .i32⟩
  | .hbm, ⟨36, _⟩ => ⟨S_, .i32⟩
  | .hbm, ⟨37, _⟩ => ⟨S4x8192x1, .i32⟩
  | .hbm, ⟨38, _⟩ => ⟨S4x8192x1, .i1⟩
  | .hbm, ⟨39, _⟩ => ⟨S1x1x1, .i32⟩
  | .hbm, ⟨40, _⟩ => ⟨S4x8192x1, .i32⟩
  | .hbm, ⟨41, _⟩ => ⟨S4x8192x1, .i1⟩
  | .hbm, ⟨42, _⟩ => ⟨S4x8192x1, .i1⟩
  | .hbm, ⟨43, _⟩ => ⟨S_, .i1⟩
  | .hbm, ⟨44, _⟩ => ⟨S4x8192, .i1⟩
  | .hbm, ⟨45, _⟩ => ⟨S4x8192x128, .f32⟩
  | .hbm, ⟨46, _⟩ => ⟨S4x8192x128, .i1⟩
  | .hbm, ⟨47, _⟩ => ⟨S_, .f32⟩
  | .hbm, ⟨48, _⟩ => ⟨S4x8192x128, .f32⟩
  | .hbm, ⟨49, _⟩ => ⟨S4x8192x128, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Proof.Setup.lean ====
/-
  What every module of this certificate names: the program as the launch theorem sees it, the ghost state, the arrays
  and the scratch buffers, and the kernel's body as one fetch of the position words followed by eight equal chunks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rope

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

abbrev xLoc (d : Dev nD) : Loc nD τ sig := (SparseCore.T d).loc main_arg0
abbrev aLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev pLoc (d : Dev nD) : Loc nD τ sig := (SparseCore.T d).loc main_v0
abbrev coLoc (d : Dev nD) : Loc nD τ sig := (SparseCore.T d).loc main_v1_0
abbrev soLoc (d : Dev nD) : Loc nD τ sig := (SparseCore.T d).loc main_v1_1
abbrev r0Loc (d : Dev nD) : Loc nD τ sig := (SparseCore.T d).loc main_v2
abbrev r1Loc (d : Dev nD) : Loc nD τ sig := (SparseCore.T d).loc main_v3

/-- The position words, the two tables, the two outputs, as a subcore names them; its list of position words and its
    two buffers of gathered rows. -/
abbrev pV : Memref sig .scVector .hbm S256x128 .i32 := Memref.whole main_v0_scv
abbrev cosV : Memref sig .scVector .hbm S8192x128 .f32 := Memref.whole main_arg2_scv
abbrev sinV : Memref sig .scVector .hbm S8192x128 .f32 := Memref.whole main_arg3_scv
abbrev coV : Memref sig .scVector .hbm S32768x128 .f32 := Memref.whole main_v1_0_scv
abbrev soV : Memref sig .scVector .hbm S32768x128 .f32 := Memref.whole main_v1_1_scv
abbrev idxV : Memref sig .scVector .vmem S8x128 .i32 := Memref.whole cc0_scratch0
abbrev rowCV : Memref sig .scVector .vmem S128x128 .f32 := Memref.whole cc0_scratch1
abbrev rowSV : Memref sig .scVector .vmem S128x128 .f32 := Memref.whole cc0_scratch2

/-! ## The body: a fetch and eight chunks -/

/-- The DMA semaphores: the two gathers', and chunk `k`'s two copies to the outputs. -/
abbrev gcSem : DmaSem sig := cc0_scratch3.sem
abbrev gsSem : DmaSem sig := cc0_scratch4.sem
abbrev fSem : DmaSem sig := cc0_scoped0.sem
def coSem (k : Fin 8) : DmaSem sig := ⟨3 + 2 * k.val, show _ < 19 by omega⟩
def soSem (k : Fin 8) : DmaSem sig := ⟨4 + 2 * k.val, show _ < 19 by omega⟩

theorem listRow_inb (k : Fin 8) : ∀ a, (![k.val, 0] : Fin 2 → Nat) a + S1x128.size a ≤ S8x128.size a := by
  intro a; match a with
  | 0 => show k.val + 1 ≤ 8; omega
  | 1 => show 0 + 128 ≤ 128; omega

/-- The task's eight rows of position words; row `k` of its list; a table, as a gather addresses it; the block of an
    output a chunk writes. -/
abbrev posRows (L : grid0.Coords) : Memref sig .scVector .hbm S8x128 .i32 :=
  pV.slice (Rect.unit (s := S256x128) (k0_off1 L) S8x128.size (k0_off1_inb L)) (fun _ => rfl)
abbrev listRow (k : Fin 8) : Memref sig .scVector .vmem S128 .i32 :=
  (idxV.slice (Rect.unit (s := S8x128) ![k.val, 0] S1x128.size (listRow_inb k)) (fun _ => rfl)).squeeze S128 squeezes_S1x128_S128
abbrev tab (t : Memref sig .scVector .hbm S8192x128 .f32) : Memref sig .scVector .hbm S8192x128 .f32 :=
  t.slice (Rect.unit (s := S8192x128) ![0, 0] S8192x128.size inb_S8192x128_S8192x128_0_0) (fun _ => rfl)
abbrev outRect (L : grid0.Coords) (k : Fin 8) : Rect S32768x128 :=
  Rect.unit (s := S32768x128) (k0_off2 L (BitVec.ofNat 32 (128 * k.val))) S128x128.size (k0_off2_inb L k)
abbrev outBlk (L : grid0.Coords) (k : Fin 8) (o : Memref sig .scVector .hbm S32768x128 .f32) : Memref sig .scVector .hbm S128x128 .f32 :=
  o.slice (outRect L k) (fun _ => rfl)

variable [FloatOps F]

/-- The subcore that runs the task at coordinates `L`. -/
abbrev cV (L : grid0.Coords) : Fin τ.nSC := (L 0).castLE hcore0
abbrev jV (L : grid0.Coords) : Fin τ.nSub := (L 1).castLE hsub0

/-- A program of that subcore. -/
abbrev TProg (F : FTy → Type) (L : grid0.Coords) : Type → Type 1 := Prog (TpuEff nD τ sig (Elt F) Λ₀ (Proc.scVector (cV L) (jV L)))

/-- The gather of the rows that row `k` of the list names, started. -/
def startGather (L : grid0.Coords) (k : Fin 8) (t : Memref sig .scVector .hbm S8192x128 .f32) (r : Memref sig .scVector .vmem S128x128 .f32) (s : DmaSem sig) : TProg F L PUnit :=
  SparseCore.enqueueIndirectGather rfl (tab t) r gathers_S8192x128_S128x128 (listRow k) rfl s (View.wordExact_bits rfl) rfl (Or.inl rfl)

/-- A gather's wait, then its rows' copy to the output, and that copy's wait. -/
def drain (L : grid0.Coords) (k : Fin 8) (t : Memref sig .scVector .hbm S8192x128 .f32) (r : Memref sig .scVector .vmem S128x128 .f32)
    (hr : r.IsWhole) (o : Memref sig .scVector .hbm S32768x128 .f32) (g s : DmaSem sig) : TProg F L PUnit := do
  SparseCore.waitIndirectGather g (tab t) r (View.wordExact_bits rfl) hr.wordExact
  Prog.lift (.enqueueDma r (.here (outBlk L k o)) (.dma s) hr.wordExact (View.wordExact_bits rfl) ⟨Or.inl rfl, trivial⟩)
  Prog.lift (.waitDma2 s r (outBlk L k o) hr.wordExact (View.wordExact_bits rfl))

/-- One chunk: both gathers started, then each waited for and copied out. -/
def chunk (L : grid0.Coords) (k : Fin 8) : TProg F L PUnit := do
  startGather L k cosV rowCV gcSem
  startGather L k sinV rowSV gsSem
  drain L k cosV rowCV (Memref.isWhole_whole _) coV gcSem (coSem k)
  drain L k sinV rowSV (Memref.isWhole_whole _) soV gsSem (soSem k)

/-- The chunks of a list of numbers, in order. -/
def chunks (L : grid0.Coords) : List (Fin 8) → TProg F L PUnit
  | [] => pure ⟨⟩
  | k :: ks => do chunk L k; chunks L ks

/-- The task's whole body. -/
def body (L : grid0.Coords) : TProg F L PUnit := do
  Prog.lift (.enqueueDma (posRows L) (.here idxV) (.dma fSem) (View.wordExact_bits rfl) (Memref.isWhole_whole _).wordExact ⟨Or.inl rfl, trivial⟩)
  Prog.lift (.waitDma2 fSem (posRows L) idxV (View.wordExact_bits rfl) (Memref.isWhole_whole _).wordExact)
  chunks L (List.finRange 8)

/-- The printed kernel function, at the launch's operands, is that body. -/
theorem kernel_eq (L : grid0.Coords) :
    cc0_gather_kernel (F := F) L pV (Memref.isWhole_whole _) cosV (Memref.isWhole_whole _) sinV (Memref.isWhole_whole _)
      coV (Memref.isWhole_whole _) soV (Memref.isWhole_whole _) idxV (Memref.isWhole_whole _) rowCV (Memref.isWhole_whole _)
      rowSV (Memref.isWhole_whole _) cc0_scratch3 cc0_scratch4 cc0_scoped0 cc0_scoped1 cc0_scoped2 cc0_scoped3 cc0_scoped4
      cc0_scoped5 cc0_scoped6 cc0_scoped7 cc0_scoped8 cc0_scoped9 cc0_scoped10 cc0_scoped11 cc0_scoped12 cc0_scoped13
      cc0_scoped14 cc0_scoped15 cc0_scoped16 = body L := by
  rfl

end Cert.Proof.Rope

end
-- ==== Proof.Value.lean ====
/-
  The values the kernel moves, as functions on indices: the rows the position words name (`rowsAt`), what a task's list
  holds, what a gather leaves in a row buffer, and what a chunk's copy leaves in its block of an output.
-/
module

public import proofs.«01_k».proof.Proof.Setup

@[expose] public section

noncomputable section

namespace Cert.Proof.Rope

open Cert.KernelIdeal Cert.KernelIdeal.Gen

open Idealize.ShloMosaic
open Idealize.ShloMosaic.Shape (pair pair_eta)

variable {F : FTy → Type}

/-! ## Arithmetic of the tasks -/

/-- The number of the task at coordinates `L`, below thirty-two. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The row of the position words behind row `k` of the task's list. -/
def posRow (L : grid0.Coords) (k : Fin 8) : Fin 256 := ⟨8 * wid L + k.val, by have := wid_lt L; omega⟩

/-- The token behind entry `r` of that row. -/
def tokOf (L : grid0.Coords) (k : Fin 8) (r : Fin 128) : Fin 32768 := ⟨1024 * wid L + 128 * k.val + r.val, by have := wid_lt L; omega⟩

/-! ## The values -/

/-- The table row a position word names. -/
def rowOf (w : BitVec 32) : Fin 8192 := Fin.ofNat 8192 w.toNat

theorem rowOf_val {w : BitVec 32} (h : w.toNat < 8192) : (rowOf w).val = w.toNat := Nat.mod_eq_of_lt h

/-- The output: at token `r` and lane `l`, lane `l` of the table's row that token's position word names. -/
def rowsAt (pos : S256x128.Idx → Elt F .i32) (t : S8192x128.Idx → Elt F .f32) : S32768x128.Idx → Elt F .f32 := fun x =>
  t (pair (d := ![8192, 128]) (rowOf (pos (pair (d := ![256, 128]) ⟨(x 0).val / 128, by have : (x 0).val < 32768 := (x 0).isLt; show _ < 256; omega⟩
    ⟨(x 0).val % 128, Nat.mod_lt _ (by decide)⟩))) (x 1))

/-- A task's list: its eight rows of the position words. -/
def listOf (L : grid0.Coords) (pos : S256x128.Idx → Elt F .i32) : S8x128.Idx → Elt F .i32 := fun x =>
  pos (pair (d := ![256, 128]) (posRow L (x 0)) (x 1))

/-- What gather `k` leaves in its row buffer. -/
def gathered (L : grid0.Coords) (k : Fin 8) (pos : S256x128.Idx → Elt F .i32) (t : S8192x128.Idx → Elt F .f32) : S128x128.Idx → Elt F .f32 := fun x =>
  t (pair (d := ![8192, 128]) (rowOf (pos (pair (d := ![256, 128]) (posRow L k) (x 0)))) (x 1))

/-! ## The views read -/

/-- The fetch reads the task's rows of the position words. -/
theorem read_posRows (L : grid0.Coords) (pos : S256x128.Idx → Elt F .i32) :
    (posRows L).view.read (Elt F) pos = listOf L pos := by
  funext x
  rw [View.read_apply]
  refine (cast_eq _ _).trans (congrArg pos ?_)
  funext a
  apply Fin.ext
  show (k0_off1 L) a + 1 * (x a).val = _
  rw [k0_off1_eq]
  match a with
  | 0 => show 16 * (L 1).val + 8 * (L 0).val + 1 * (x 0).val = 8 * (2 * (L 1).val + (L 0).val) + (x 0).val; omega
  | 1 => show 0 + 1 * (x 1).val = (x 1).val; omega

/-- A gather reads its whole table. -/
theorem read_tab (t : Memref sig .scVector .hbm S8192x128 .f32) (f : t.view.ty.Contents (Elt F)) :
    (tab t).view.read (Elt F) f = t.view.read (Elt F) f := by
  funext x
  rw [View.read_apply, View.read_apply]
  congr 2
  show t.view.emb _ = t.view.emb x
  congr 1
  funext a
  apply Fin.ext
  match a with
  | 0 => show 0 + 1 * (x 0).val = (x 0).val; omega
  | 1 => show 0 + 1 * (x 1).val = (x 1).val; omega

/-- Row `k` of the list, entry by entry. -/
theorem read_listRow (k : Fin 8) (f : S8x128.Idx → Elt F .i32) (y : S128.Idx) :
    (listRow k).view.read (Elt F) f y = f (pair (d := ![8, 128]) k (y 0)) := by
  rw [View.read_apply]
  refine (cast_eq _ _).trans (congrArg f ?_)
  have e : Shape.reshapeEquiv (s := S1x128) (s' := S128) squeezes_S1x128_S128.numel_eq y = pair (d := ![1, 128]) ⟨0, Nat.one_pos⟩ (y 0) := by
    refine Shape.reshapeEquiv_eq_of_rowMajor _ ?_
    rw [Shape.rowMajor_val_two, Shape.rowMajor_val_one]
    show 0 * 128 + (y 0).val = (y 0).val
    omega
  show (Rect.unit (s := S8x128) ![k.val, 0] S1x128.size (listRow_inb k)).emb (Shape.reshapeEquiv squeezes_S1x128_S128.numel_eq y) = _
  rw [e]
  funext a
  apply Fin.ext
  match a with
  | 0 => show k.val + 1 * 0 = k.val; omega
  | 1 => show 0 + 1 * (y 0).val = (y 0).val; omega

/-- Every entry of the list is a row of the tables. -/
theorem list_inb (L : grid0.Coords) (k : Fin 8) (pos : S256x128.Idx → Elt F .i32) (h : ∀ j, (pos j).toNat < 8192) :
    ∀ x, ((listRow k).view.read (Elt F) (listOf L pos) x).toNat < S8192x128.size gathers_S8192x128_S128x128.axis := by
  intro x; rw [read_listRow]; exact h _

/-- What the gather delivers. -/
theorem payload_eq (L : grid0.Coords) (k : Fin 8) (pos : S256x128.Idx → Elt F .i32) (h : ∀ j, (pos j).toNat < 8192)
    (t : S8192x128.Idx → Elt F .f32) (hn : S128.numel = S128x128.size gathers_S8192x128_S128x128.axis')
    (hin : ∀ x, ((listRow k).view.read (Elt F) (listOf L pos) x).toNat < S8192x128.size gathers_S8192x128_S128x128.axis) :
    SparseCore.gatherPayload gathers_S8192x128_S128x128 t (SparseCore.rows ((listRow k).view.read (Elt F) (listOf L pos)) hn hin)
      = gathered L k pos t := by
  funext x
  unfold SparseCore.gatherPayload gathered
  refine congrArg t ?_
  funext a
  apply Fin.ext
  match a with
  | 0 =>
    refine (congrArg Fin.val (Shape.Gathers.idx_axis gathers_S8192x128_S128x128 _ x)).trans ?_
    show ((listRow k).view.read (Elt F) (listOf L pos) (S128.rowMajor.symm ((x 0).cast hn.symm))).toNat = (rowOf _).val
    rw [read_listRow, rowOf_val (h _)]
    have e : (S128.rowMajor.symm ((x 0).cast hn.symm) 0).val = (x 0).val := by
      rw [← Shape.rowMajor_val_one, Equiv.apply_symm_apply]; rfl
    unfold listOf
    refine congrArg (fun z => (pos z).toNat) ?_
    exact congrArg (pair (d := ![256, 128]) (posRow L k)) (Fin.ext e)
  | 1 =>
    exact Shape.Gathers.idx_of_ne gathers_S8192x128_S128x128 _ x 1 (by decide)

/-- The block of an output that chunk `k` writes, element by element. -/
theorem emb_outRect (L : grid0.Coords) (k : Fin 8) (y : S128x128.Idx) :
    (outRect L k).emb y = pair (d := ![32768, 128]) (tokOf L k (y 0)) (y 1) := by
  funext a
  apply Fin.ext
  show k0_off2 L (BitVec.ofNat 32 (128 * k.val)) a + 1 * (y a).val = _
  rw [k0_off2_eq]
  match a with
  | 0 =>
    show 2048 * (L 1).val + 1024 * (L 0).val + 128 * k.val + 1 * (y 0).val = 1024 * (2 * (L 1).val + (L 0).val) + 128 * k.val + (y 0).val
    omega
  | 1 => show 0 + 1 * (y 1).val = (y 1).val; omega

/-- The output at an element of that block is what the gather left. -/
theorem rowsAt_emb (L : grid0.Coords) (k : Fin 8) (pos : S256x128.Idx → Elt F .i32) (t : S8192x128.Idx → Elt F .f32) (y : S128x128.Idx) :
    rowsAt pos t ((outRect L k).emb y) = gathered L k pos t y := by
  rw [emb_outRect]
  have hy : (y 0).val < 128 := (y 0).isLt
  unfold rowsAt gathered
  refine congrArg (fun z => t (pair (d := ![8192, 128]) (rowOf (pos z)) (y 1))) ?_
  refine congrArg₂ (pair (d := ![256, 128])) (Fin.ext ?_) (Fin.ext ?_)
  · show (1024 * wid L + 128 * k.val + (y 0).val) / 128 = 8 * wid L + k.val; omega
  · show (1024 * wid L + 128 * k.val + (y 0).val) % 128 = (y 0).val; omega

end Cert.Proof.Rope

end
-- ==== Proof.Chunk.lean ====
/-
  One chunk of a task, at any chunk number: both gathers are started, each lending one half of the list and the task's
  share of its table; each is then waited for and its rows copied to the task's block of an output. The chunk takes the
  block at any contents and leaves it at the rows the position words name (`chunk_step`).
-/
module

public import proofs.«01_k».proof.Proof.Value

@[expose] public section

noncomputable section

namespace Cert.Proof.Rope

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type}

local notation "𝕄" => MT nD τ sig (HIx 1) (Elt F) ℕ UU ℕ

/-! ## What a task holds between chunks -/

/-- The thread that runs the task at coordinates `L` on device `d`. -/
abbrev thr (d : Dev nD) (L : grid0.Coords) : Thread nD τ := V d (cV L) (jV L)

section Held

variable (d : Dev nD) (L : grid0.Coords) (O : CellTallies nD τ sig (HIx 1)) (W : Waits sig (HIx 1))

/-- What the thread owes, every wait made since `W` being one of its own transfers'. -/
def Owed : sProp 𝕄 := iprop(∃ W', ⌜∀ p ∈ W', p ∈ W ∨ p.2 = none⌝ ∗ owes (thr d L) O W')

variable (q : PosShare TreeShare) (pos : S256x128.Idx → Elt F .i32) (cs sn : S8192x128.Idx → Elt F .f32)

/-- Between chunks: the shares of the tables, the list in two halves, the two row buffers at anything, the two gather
    semaphores at zero. -/
def Held : sProp 𝕄 :=
  iprop(Owed (F := F) d L O W ∗ (cosV.view.loc (thr d L) ↦{q} cs) ∗ (sinV.view.loc (thr d L) ↦{q} sn)
    ∗ (idxV.view.loc (thr d L) ↦{fullShare.left} listOf L pos) ∗ (idxV.view.loc (thr d L) ↦{fullShare.right} listOf L pos)
    ∗ (∃ f, rowCV.view.loc (thr d L) ↦{fullShare} f) ∗ (∃ f, rowSV.view.loc (thr d L) ↦{fullShare} f)
    ∗ semVal (thr d L, SemLoc.dma gcSem) 0 ∗ semVal (thr d L, SemLoc.dma gsSem) 0)

/-- Chunk `k`'s own: its two copies' semaphores at zero and its blocks of the outputs, at `f` and `g`. -/
def Blk (k : Fin 8) (f g : S32768x128.Idx → Elt F .f32) : sProp 𝕄 :=
  iprop(semVal (thr d L, SemLoc.dma (coSem k)) 0 ∗ semVal (thr d L, SemLoc.dma (soSem k)) 0
    ∗ (coV.view.loc (thr d L) ↦[(outRect L k).set]{fullShare} f) ∗ (soV.view.loc (thr d L) ↦[(outRect L k).set]{fullShare} g))

end Held

/-! ## The block a copy leaves -/

theorem set_outBlk (L : grid0.Coords) (k : Fin 8) (b : Memref sig .scVector .hbm S32768x128 .f32) :
    (outBlk L k b).view.set = (outRect L k).set.map b.view.emb := View.set_slice _ _

/-- Rows `w` copied to the block are, at the block's elements, any contents that agree with `w` there. -/
theorem write_outBlk (L : grid0.Coords) (k : Fin 8) (o : Memref sig .scVector .hbm S32768x128 .f32) (f : o.view.ty.Contents (Elt F))
    (w : S128x128.Idx → Elt F .f32) (g : S32768x128.Idx → Elt F .f32) (h : ∀ y, g ((outRect L k).emb y) = w y) :
    ∀ x ∈ (outRect L k).set,
      (outBlk L k o).view.write (Elt F) f w Finset.univ (o.view.emb x) = _root_.cast (congrArg (Elt F) o.view.elt_eq.symm) (g x) := by
  intro x hx
  rw [← Rect.map_emb_univ] at hx
  obtain ⟨y, -, rfl⟩ := Finset.mem_map.mp hx
  rw [h]
  exact View.write_emb_of_mem (v := (outBlk L k o).view) f w (Finset.mem_univ y)

section Run

variable [FloatOps F] (d : Dev nD) (L : grid0.Coords) (O : CellTallies nD τ sig (HIx 1)) (W : Waits sig (HIx 1))

local notation "wpT" => wp frame (wpE (defs₀ (F := F)) 𝒱₀ (thr d L) none) Set.univ

/-! ## A wait and a drain -/

/-- A wait for a transfer of the thread's own. -/
theorem wait_step {α : Type} {Q : α → sProp 𝕄} {sp sp' : Space} {s s' : Shape} {e e' : EltTy} {sem : DmaSem sig}
    {srcw : Memref sig .scVector sp' s' e'} {dstw : Memref sig .scVector sp s e} {hsrc : srcw.view.WordExact} {hdst : dstw.view.WordExact}
    {k : PUnit → TProg F L α} {N : ℕ} (hN : dstw.view.dmaCredit = N) {Dv : sProp 𝕄} :
    iprop(MayWaits (thr d L) (none : HIx 1) O ∗ Flight countersEmb (thr d L) (.dma sem) (none : HIx 1) N Dv ∗ Owed d L O W)
      ⊢ iprop((iprop(Dv ∗ semVal (thr d L, SemLoc.dma sem) 0 ∗ Owed d L O W) -∗ wpT (k ⟨⟩) Q)
          -∗ wpT (.op (.waitDma2 sem srcw dstw hsrc hdst) k) Q) := by
  unfold Owed
  iintro ⟨#Hmw, Hf, %W', %hW', HO⟩ Hk
  iapply (Transfers.wp_waitLocalO countersEmb 𝒱₀ (thr d L) none (none : HIx 1) hN) $$ [Hf HO]
  · iframe Hf HO
    iapply (MayWaits.elim (SemLoc.dma sem)) $$ Hmw
  iintro ⟨HD, Hs, HO⟩
  iapply Hk
  iframe HD Hs
  iexists _; iframe HO
  ipureintro
  intro p hp
  rcases Finset.mem_insert.mp hp with hp | hp
  · exact .inr (hp ▸ rfl)
  · exact hW' p hp

/-- The gather's wait, the copy of its rows to the block, the copy's wait. -/
theorem drain_step {α : Type} {Q : α → sProp 𝕄} (k : Fin 8) (t : Memref sig .scVector .hbm S8192x128 .f32)
    (r : Memref sig .scVector .vmem S128x128 .f32) (hr : r.IsWhole) (o : Memref sig .scVector .hbm S32768x128 .f32) (g s : DmaSem sig)
    (So : Finset (Idx (o.view.loc (thr d L)))) (hSo : (outBlk L k o).view.set ⊆ So)
    (fr : Buf (Elt F) (r.view.loc (thr d L))) (fo : Buf (Elt F) (o.view.loc (thr d L))) (A : sProp 𝕄) (Kt : PUnit → TProg F L α) :
    iprop(MayWaits (thr d L) (none : HIx 1) O
        ∗ Flight countersEmb (thr d L) (.dma g) (none : HIx 1) r.view.dmaCredit iprop((r.view.loc (thr d L) ↦{fullShare} fr) ∗ A)
        ∗ (o.view.loc (thr d L) ↦[So]{fullShare} fo) ∗ semVal (thr d L, SemLoc.dma s) 0 ∗ Owed d L O W)
      ⊢ iprop((iprop((r.view.loc (thr d L) ↦{fullShare} fr) ∗ A
            ∗ (o.view.loc (thr d L) ↦[So]{fullShare} (outBlk L k o).view.write (Elt F) fo (r.view.read (Elt F) fr) Finset.univ)
            ∗ semVal (thr d L, SemLoc.dma g) 0 ∗ semVal (thr d L, SemLoc.dma s) 0 ∗ Owed d L O W) -∗ wpT (Kt ⟨⟩) Q)
          -∗ wpT (drain L k t r hr o g s >>= Kt) Q) := by
  rw [show (drain L k t r hr o g s >>= Kt : TProg F L α) = .op (.waitDma2 g (tab t) r (View.wordExact_bits rfl) hr.wordExact) fun _ =>
    .op (.enqueueDmaAs r (.here (outBlk L k o)) .same (.dma s) hr.wordExact (View.wordExact_bits rfl) ⟨Or.inl rfl, trivial⟩) fun _ =>
      .op (.waitDma2 s r (outBlk L k o) hr.wordExact (View.wordExact_bits rfl)) Kt from rfl]
  iintro ⟨#Hmw, Hf, Ho, Hs, HO⟩ Hk
  iapply (wait_step d L O W rfl) $$ [Hf HO]
  · iframe Hmw Hf HO
  iintro ⟨⟨Hr, HA⟩, Hg, HO⟩
  iapply (Transfers.wp_dmaFromWhole countersEmb 𝒱₀ (thr d L) none (none : HIx 1) (outBlk L k o).view.dmaCredit rfl
    (View.dmaCredit_pos _ (by decide)) hSo) $$ [Hr Ho Hs]
  · iframe Hr Ho Hs
  iintro Hf
  iapply (wait_step d L O W rfl) $$ [Hf HO]
  · iframe Hmw Hf HO
  iintro ⟨⟨Ho, Hr⟩, Hs, HO⟩
  iapply Hk
  iframe Hr HA Ho Hg Hs HO

/-! ## A chunk -/

variable (q : PosShare TreeShare) (pos : S256x128.Idx → Elt F .i32) (cs sn : S8192x128.Idx → Elt F .f32)

/-- A gather started: from the table's share, the row buffer at anything, half the list and the semaphore at zero, to
    the transfer in flight, which will bring the rows the list names. -/
theorem start_step {α : Type} {Q : α → sProp 𝕄} (k : Fin 8) (t : Memref sig .scVector .hbm S8192x128 .f32)
    (r : Memref sig .scVector .vmem S128x128 .f32) (g : DmaSem sig) (ql : PosShare TreeShare) (hpos : ∀ j, (pos j).toNat < 8192)
    (hcr : ∀ s' : Shape, sig.dmaCredit .scVector (Kind.scVector.table .vmem) r.view.buf s' .f32 = s'.numel * (EltTy.f32).bits)
    (ft : Buf (Elt F) (t.view.loc (thr d L))) (fr : Buf (Elt F) (r.view.loc (thr d L))) (Kt : PUnit → TProg F L α) :
    iprop((t.view.loc (thr d L) ↦{q} ft) ∗ (r.view.loc (thr d L) ↦{fullShare} fr)
        ∗ (idxV.view.loc (thr d L) ↦{ql} listOf L pos) ∗ semVal (thr d L, SemLoc.dma g) 0)
      ⊢ iprop((Flight countersEmb (thr d L) (.dma g) (none : HIx 1) r.view.dmaCredit
            iprop((r.view.loc (thr d L) ↦{fullShare} r.view.write (Elt F) fr (gathered L k pos (t.view.read (Elt F) ft)) Finset.univ)
              ∗ (t.view.loc (thr d L) ↦{q} ft) ∗ (idxV.view.loc (thr d L) ↦{ql} listOf L pos)) -∗ wpT (Kt ⟨⟩) Q)
          -∗ wpT (startGather L k t r g >>= Kt) Q) := by
  have h := SparseCore.wp_gatherFromWhole (defs := defs₀ (F := F)) (Q := Q) countersEmb 𝒱₀ (thr d L) none (src := tab t) (dst := r)
    (hg := gathers_S8192x128_S128x128) (offs := listRow k) (hn := rfl) (sem := g) (hp := rfl) (hsrc := View.wordExact_bits rfl)
    (he := rfl) (hsp := Or.inl rfl) (hr := by decide) (q := q) (qo := ql) (fs := ft) (fd := fr) (fo := listOf L pos) (k := Kt)
    (none : HIx 1) r.view.dmaCredit (SparseCore.sum_rowCredit_eq_dmaCredit r _ hcr) (by decide) (list_inb L k pos hpos)
  have e := (payload_eq L k pos hpos ((tab t).view.read (Elt F) ft) rfl (list_inb L k pos hpos)).trans
    (congrArg (gathered L k pos) (read_tab t ft))
  rw [← e]
  exact h

/-- A chunk's block of the cosine output, after the copy. -/
theorem copied_co (k : Fin 8) (fr : S128x128.Idx → Elt F .f32) (f : S32768x128.Idx → Elt F .f32) :
    (coV.view.loc (thr d L) ↦[(outRect L k).set]{fullShare} (outBlk L k coV).view.write (Elt F) f
          (rowCV.view.read (Elt F) (rowCV.view.write (Elt F) fr (gathered L k pos (cosV.view.read (Elt F) cs)) Finset.univ)) Finset.univ : sProp 𝕄)
      = coV.view.loc (thr d L) ↦[(outRect L k).set]{fullShare} rowsAt pos cs := by
  refine pointsTo_congr (write_outBlk L k coV f _ (rowsAt pos cs) fun y => (rowsAt_emb L k pos cs y).trans (congrFun ?_ y))
  rw [View.write_whole_univ, View.read_whole, View.read_whole]

/-- and of the sine output. -/
theorem copied_so (k : Fin 8) (fr : S128x128.Idx → Elt F .f32) (f : S32768x128.Idx → Elt F .f32) :
    (soV.view.loc (thr d L) ↦[(outRect L k).set]{fullShare} (outBlk L k soV).view.write (Elt F) f
          (rowSV.view.read (Elt F) (rowSV.view.write (Elt F) fr (gathered L k pos (sinV.view.read (Elt F) sn)) Finset.univ)) Finset.univ : sProp 𝕄)
      = soV.view.loc (thr d L) ↦[(outRect L k).set]{fullShare} rowsAt pos sn := by
  refine pointsTo_congr (write_outBlk L k soV f _ (rowsAt pos sn) fun y => (rowsAt_emb L k pos sn y).trans (congrFun ?_ y))
  rw [View.write_whole_univ, View.read_whole, View.read_whole]

/-- Chunk `k`, run: its blocks of the outputs end at the rows the position words name. -/
theorem chunk_step {α : Type} {Q : α → sProp 𝕄} (k : Fin 8) (hpos : ∀ j, (pos j).toNat < 8192) (f g : S32768x128.Idx → Elt F .f32)
    (Kt : PUnit → TProg F L α) :
    iprop(MayWaits (thr d L) (none : HIx 1) O ∗ Held d L O W q pos cs sn ∗ Blk d L k f g)
      ⊢ iprop((iprop(Held d L O W q pos cs sn ∗ Blk d L k (rowsAt pos cs) (rowsAt pos sn)) -∗ wpT (Kt ⟨⟩) Q)
          -∗ wpT (chunk L k >>= Kt) Q) := by
  rw [show (chunk L k >>= Kt : TProg F L α) = startGather L k cosV rowCV gcSem >>= fun _ => startGather L k sinV rowSV gsSem >>= fun _ =>
    drain L k cosV rowCV (Memref.isWhole_whole _) coV gcSem (coSem k) >>= fun _ =>
      drain L k sinV rowSV (Memref.isWhole_whole _) soV gsSem (soSem k) >>= Kt from rfl]
  unfold Held Blk
  iintro ⟨#Hmw, ⟨HO, Hc, Hs, Hl, Hr, ⟨%fc, Hrc⟩, ⟨%fs, Hrs⟩, Hgc, Hgs⟩, Hwc, Hws, Hco, Hso⟩ Hk
  iapply (start_step d L q pos k cosV rowCV gcSem fullShare.left hpos (fun _ => rfl) cs fc) $$ [Hc Hrc Hl Hgc]
  · iframe Hc Hrc Hl Hgc
  iintro Hfc
  iapply (start_step d L q pos k sinV rowSV gsSem fullShare.right hpos (fun _ => rfl) sn fs) $$ [Hs Hrs Hr Hgs]
  · iframe Hs Hrs Hr Hgs
  iintro Hfs
  iapply (drain_step d L O W k cosV rowCV (Memref.isWhole_whole _) coV gcSem (coSem k) (outRect L k).set
    ((set_outBlk L k coV).trans Finset.map_refl).subset _ f) $$ [Hfc Hco Hwc HO]
  · iframe Hmw Hfc Hco Hwc HO
  iintro ⟨Hrc, ⟨Hc, Hl⟩, Hco, Hgc, Hwc, HO⟩
  iapply (drain_step d L O W k sinV rowSV (Memref.isWhole_whole _) soV gsSem (soSem k) (outRect L k).set
    ((set_outBlk L k soV).trans Finset.map_refl).subset _ g) $$ [Hfs Hso Hws HO]
  · iframe Hmw Hfs Hso Hws HO
  iintro ⟨Hrs, ⟨Hs, Hr⟩, Hso, Hgs, Hws, HO⟩
  iapply Hk
  ihave Hco := (Entails.of_eq (copied_co d L pos cs k fc f)) $$ Hco
  ihave Hso := (Entails.of_eq (copied_so d L pos sn k fs g)) $$ Hso
  iframe HO Hc Hs Hl Hr Hgc Hgs Hwc Hws Hco Hso
  isplitl [Hrc]
  · iexists _; iexact Hrc
  · iexists _; iexact Hrs

/-- The chunks of a list, run, over any chunks' blocks that hold the list's. -/
theorem chunks_step {α : Type} {Q : α → sProp 𝕄} (hpos : ∀ j, (pos j).toNat < 8192) (f g : S32768x128.Idx → Elt F .f32) (Kt : PUnit → TProg F L α) :
    ∀ ks : List (Fin 8), ks.Nodup →
    iprop(MayWaits (thr d L) (none : HIx 1) O ∗ Held d L O W q pos cs sn ∗ bigSep ks.toFinset fun k => Blk d L k f g)
      ⊢ iprop((iprop(Held d L O W q pos cs sn ∗ bigSep ks.toFinset fun k => Blk d L k (rowsAt pos cs) (rowsAt pos sn)) -∗ wpT (Kt ⟨⟩) Q)
          -∗ wpT (chunks L ks >>= Kt) Q)
  | [], _ => by
    rw [List.toFinset_nil, bigSep_empty, bigSep_empty]
    iintro ⟨-, HH, HB⟩ Hk
    iapply Hk
    isplitl [HH]; · iexact HH
    iexact HB
  | k :: ks, hn => by
    rw [show (chunks L (k :: ks) >>= Kt : TProg F L α) = chunk L k >>= fun _ => chunks L ks >>= Kt from bind_assoc _ _ _]
    have hk : k ∉ ks.toFinset := fun h => (List.nodup_cons.mp hn).1 (List.mem_toFinset.mp h)
    rw [List.toFinset_cons, SparseCore.bigSep_insert' hk, SparseCore.bigSep_insert' hk]
    iintro ⟨#Hmw, HH, HB, HBs⟩ Hk
    iapply (chunk_step d L O W q pos cs sn k hpos f g) $$ [HH HB]
    · iframe Hmw HH HB
    iintro ⟨HH, HB⟩
    iapply (chunks_step hpos f g Kt ks (List.nodup_cons.mp hn).2) $$ [HH HBs]
    · iframe Hmw HH HBs
    iintro ⟨HH, HBs⟩
    iapply Hk
    iframe HH HB HBs

end Run

end Cert.Proof.Rope

end
-- ==== Proof.Tile.lean ====
/-
  One task: its own semaphores and scratch buffers, taken out of what its subcore owns; the fetch of its position words;
  its eight chunks. Then the obligation of the launch: what a task is handed and what it gives back.
-/
module

public import proofs.«01_k».proof.Proof.Chunk

@[expose] public section

noncomputable section

namespace Cert.Proof.Rope

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type}

local notation "𝕄" => MT nD τ sig (HIx 1) (Elt F) ℕ UU ℕ

/-! ## The task's own semaphores and buffers -/

section Own

variable (d : Dev nD) (L : grid0.Coords)

/-- The task's semaphores: the two gathers' and the fetch's, the cosine copies', the sine copies'. -/
def semOf : Fin 3 ⊕ (Fin 8 ⊕ Fin 8) → DmaSem sig
  | .inl i => ⟨i.val, show _ < 19 by omega⟩
  | .inr (.inl k) => coSem k
  | .inr (.inr k) => soSem k

theorem semOf_injective : Function.Injective semOf := by
  intro x y h
  have h' := congrArg Fin.val h
  rcases x with i | k | k <;> rcases y with i' | k' | k' <;>
    simp only [semOf, coSem, soSem] at h' <;> first | exact absurd h' (by omega) | (congr 2; first | (apply Fin.ext; omega) | skip)

theorem own_sem (s : DmaSem sig) : (thr d L, SemLoc.dma s) ∈ ownCells (thr d L) :=
  mem_ownCells.mpr ⟨rfl, by revert s; show ∀ s : DmaSem sig, (SemLoc.dma s : SemLoc sig).isScoped .scVector = true; decide⟩

/-- What is left of the subcore's semaphores. -/
def restSems : sProp 𝕄 :=
  bigSep (ownCells (thr d L) \ Finset.univ.image fun x => (thr d L, SemLoc.dma (semOf x))) fun g => semVal g 0

theorem ownSems0_task :
    (ownSems0 (thr d L) : sProp 𝕄)
      = iprop(((semVal (thr d L, SemLoc.dma gcSem) 0 ∗ semVal (thr d L, SemLoc.dma gsSem) 0 ∗ semVal (thr d L, SemLoc.dma fSem) 0)
          ∗ (bigSep Finset.univ fun k => semVal (thr d L, SemLoc.dma (coSem k)) 0) ∗ bigSep Finset.univ fun k => semVal (thr d L, SemLoc.dma (soSem k)) 0)
        ∗ restSems d L) := by
  unfold SparseCore.Cfg.ownSems0 restSems
  rw [SparseCore.bigSep_sdiff_split' (t := Finset.univ.image fun x => (thr d L, SemLoc.dma (semOf x))) (fun g hg => by
      obtain ⟨x, -, rfl⟩ := Finset.mem_image.mp hg; exact own_sem d L (semOf x)),
    SparseCore.bigSep_image_of_injOn (fun x _ y _ h => semOf_injective (SemLoc.dma.inj (Prod.mk.inj h).2)),
    bigSep_univ_sum, bigSep_univ_sum, show (Finset.univ : Finset (Fin 3)) = {0, 1, 2} by decide,
    SparseCore.bigSep_insert' (by decide), SparseCore.bigSep_insert' (by decide), bigSep_singleton]
  rfl

/-- The three scratch buffers, taken out of the subcore's own. -/
theorem ownBufs_task :
    (ownBufs (thr d L) : sProp 𝕄)
      = iprop((∃ f, idxV.view.loc (thr d L) ↦{fullShare} f) ∗ (∃ f, rowCV.view.loc (thr d L) ↦{fullShare} f) ∗ (∃ f, rowSV.view.loc (thr d L) ↦{fullShare} f)
          ∗ bigSep (((((ownRefs (τ := τ) (.scVector (cV L) (jV L))).erase ((Proc.scVector (cV L) (jV L)).devRef cc0_scratch0))).erase
              ((Proc.scVector (cV L) (jV L)).devRef cc0_scratch1)).erase ((Proc.scVector (cV L) (jV L)).devRef cc0_scratch2))
              fun b => iprop(∃ f, ((d, b) : Loc nD τ sig) ↦{fullShare} f)) := by
  have own (b : Ref sig .scVector) (h : ((Proc.scVector (cV L) (jV L)).devRef b).owner = .proc (.scVector (cV L) (jV L))) :=
    mem_ownRefs_of_owner (p := Proc.scVector (cV L) (jV L)) (b := (Proc.scVector (cV L) (jV L)).devRef b) h
  have ne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (a := cc0_scratch1) (b := cc0_scratch0) (by decide), own cc0_scratch1 rfl⟩),
    SparseCore.bigSep_erase' (Finset.mem_erase.mpr ⟨ne (a := cc0_scratch2) (b := cc0_scratch1) (by decide),
      Finset.mem_erase.mpr ⟨ne (a := cc0_scratch2) (b := cc0_scratch0) (by decide), own cc0_scratch2 rfl⟩⟩)]

end Own

/-! ## What a task is handed, and the task -/

section Task

variable (d : Dev nD) (L : grid0.Coords) (q : PosShare TreeShare) (pos : S256x128.Idx → Elt F .i32) (cs sn : S8192x128.Idx → Elt F .f32)

/-- A task's part of the arrays: a share of the position words and of the tables, and its blocks of the outputs, at `f`
    and `g`. -/
def Part (f g : S32768x128.Idx → Elt F .f32) : sProp 𝕄 :=
  iprop((pLoc d ↦{q} pos) ∗ (cLoc d ↦{q} cs) ∗ (sLoc d ↦{q} sn)
    ∗ (bigSep Finset.univ fun k : Fin 8 => coLoc d ↦[(outRect L k).set]{fullShare} f)
    ∗ bigSep Finset.univ fun k : Fin 8 => soLoc d ↦[(outRect L k).set]{fullShare} g)

instance Part_storable (f g : S32768x128.Idx → Elt F .f32) : BI.Storable (upEmb : UEmb _ 𝕄) (Part d L q pos cs sn f g) := by
  unfold Part; infer_instance

/-- The chunks' own, together, are the semaphores of their copies and the task's blocks. -/
theorem blks_eq (f g : S32768x128.Idx → Elt F .f32) :
    (bigSep Finset.univ fun k : Fin 8 => Blk d L k f g : sProp 𝕄)
      = iprop((bigSep Finset.univ fun k => semVal (thr d L, SemLoc.dma (coSem k)) 0) ∗ (bigSep Finset.univ fun k => semVal (thr d L, SemLoc.dma (soSem k)) 0)
        ∗ (bigSep Finset.univ fun k : Fin 8 => coLoc d ↦[(outRect L k).set]{fullShare} f)
        ∗ bigSep Finset.univ fun k : Fin 8 => soLoc d ↦[(outRect L k).set]{fullShare} g) := by
  unfold Blk
  rw [bigSep_sep', bigSep_sep', bigSep_sep']

variable [FloatOps F]

/-- What the fetch leaves in the list. -/
theorem fetched (q' : PosShare TreeShare) (fi : S8x128.Idx → Elt F .i32) :
    (idxV.view.loc (thr d L) ↦{q'} idxV.view.write (Elt F) fi ((posRows L).view.read (Elt F) pos) Finset.univ : sProp 𝕄)
      = idxV.view.loc (thr d L) ↦{q'} listOf L pos := by
  rw [read_posRows, View.write_whole_univ]

set_option maxHeartbeats 1000000 in
/-- The task: from its part of the arrays, with its blocks at any contents, to the same with its blocks at the rows its
    position words name. -/
theorem tile_body (hF : (K (F := F)).Facts) (hpos : ∀ j, (pos j).toNat < 8192) (f g : S32768x128.Idx → Elt F .f32)
    (O : CellTallies nD τ sig (HIx 1)) (W : Waits sig (HIx 1)) (hO : ∀ g, O g none = 0) :
    iprop(levAts (K (F := F)).L (K (F := F)).lev ∗ emp ∗ Part d L q pos cs sn f g
        ∗ scopedBufs (thr d L) ∗ scopedSems0 (thr d L) ∗ owes (thr d L) O W)
      ⊢ wp frame (wpE (defs₀ (F := F)) 𝒱₀ (thr d L) none) Set.univ (body L)
          fun _ => iprop(Part d L q pos cs sn (rowsAt pos cs) (rowsAt pos sn) ∗ scopedBufs (thr d L) ∗ scopedSems0 (thr d L) ∗ Owed d L O W) := by
  rw [(K (F := F)).scopedBufs_V hF d (cV L) (jV L), SparseCore.Cfg.scopedSems0_V (Val := Elt F) d (cV L) (jV L), ownSems0_task, ownBufs_task,
    show (body L : TProg F L PUnit) = .op (.enqueueDmaAs (posRows L) (.here idxV) .same (.dma fSem) (View.wordExact_bits rfl) (Memref.isWhole_whole _).wordExact ⟨Or.inl rfl, trivial⟩) fun _ =>
      .op (.waitDma2 fSem (posRows L) idxV (View.wordExact_bits rfl) (Memref.isWhole_whole _).wordExact) fun _ =>
        chunks L (List.finRange 8) >>= fun x => pure x from rfl]
  unfold Part
  iintro ⟨#Hlv, -, ⟨Hp, Hc, Hs, Hco, Hso⟩, ⟨⟨%fi, Hi⟩, HrC, HrS, Hbufs⟩, ⟨⟨⟨Hgc, Hgs, Hf⟩, Hcs, Hss⟩, Hsems⟩, HO⟩
  ihave Hmw := (show levAts (K (F := F)).L (K (F := F)).lev ⊢ MayWaits (thr d L) (none : HIx 1) O from
    (K (F := F)).mayWaits_none (thr := thr d L) hO) $$ Hlv
  ihave HO := (show owes (thr d L) O W ⊢ (Owed d L O W : sProp 𝕄) by
    unfold Owed; iintro HO; iexists W; iframe HO; ipureintro; exact fun p hp => .inl hp) $$ HO
  iapply (Transfers.wp_dmaFromWhole countersEmb 𝒱₀ (thr d L) none (none : HIx 1) idxV.view.dmaCredit rfl
    (View.dmaCredit_pos _ (by decide)) (Finset.subset_univ _) (src := posRows L) (q := q) (fs := pos) (fd := fi)) $$ [Hp Hi Hf]
  · iframe Hp Hi Hf
  iintro Hfl
  iapply (wait_step d L O W rfl) $$ [Hfl HO]
  · iframe Hmw Hfl HO
  iintro ⟨⟨Hi, Hp⟩, Hf, HO⟩
  ihave Hi := (Entails.of_eq (fetched d L pos fullShare fi)) $$ Hi
  ihave Hi := (pointsTo_share (PosShare.mem_left_op_right fullShare)).1 $$ Hi
  icases Hi with ⟨Hl, Hr⟩
  ihave HB := (Entails.of_eq (blks_eq d L f g).symm) $$ [Hcs Hss Hco Hso]
  · iframe Hcs Hss Hco Hso
  iapply (chunks_step d L O W q pos cs sn hpos f g (fun x => pure x) (List.finRange 8) (List.nodup_finRange 8)) $$ [HO Hc Hs Hl Hr HrC HrS Hgc Hgs HB]
  · rw [show (List.finRange 8).toFinset = (Finset.univ : Finset (Fin 8)) by decide]
    unfold Held
    iframe Hmw HO Hc Hs Hl Hr HrC HrS Hgc Hgs HB
  rw [show (List.finRange 8).toFinset = (Finset.univ : Finset (Fin 8)) by decide, blks_eq]
  unfold Held
  iintro ⟨⟨HO, Hc, Hs, Hl, Hr, HrC, HrS, Hgc, Hgs⟩, Hcs, Hss, Hco, Hso⟩
  ihave Hi := (pointsTo_share (PosShare.mem_left_op_right fullShare)).2 $$ [Hl Hr]
  · iframe Hl Hr
  rw [wp_pure]
  imodintro
  iframe Hp Hc Hs Hco Hso HrC HrS Hbufs Hgc Hgs Hf Hcs Hss Hsems HO
  iexists _; iexact Hi

end Task

end Cert.Proof.Rope

end
-- ==== Proof.Split.lean ====
/-
  The arrays cut for the thirty-two tasks: a thirty-second share of the position words and of each table apiece, and of
  each output the task's eight blocks out of 256. Cut before the call, the parts make the arrays up again after it.
-/
module

public import proofs.«01_k».proof.Proof.Tile

@[expose] public section

noncomputable section

namespace Cert.Proof.Rope

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tasks by number -/

/-- The task of SparseCore `c`'s subcore `i`. -/
def coords (c : Fin (grid0.bound 0)) (i : Fin (grid0.bound 1)) : grid0.Coords :=
  fun | 0 => c | 1 => i | ⟨_ + 2, h⟩ => absurd h (Nat.not_lt.2 (Nat.le_add_left _ _))

/-- A task's number. -/
def widF (L : grid0.Coords) : Fin 32 := ⟨wid L, wid_lt L⟩

/-- All the tasks by number are all the subcores of both cores. -/
theorem bigSep_tasks (Φ : Fin 32 → sProp 𝕄) :
    bigSep Finset.univ Φ = bigSep Finset.univ fun c : Fin 2 => bigSep Finset.univ fun i : Fin 16 => Φ (widF (coords c i)) := by
  rw [bigSep_univ_equiv ((Equiv.prodComm (Fin 2) (Fin 16)).trans finProdFinEquiv) Φ, bigSep_univ_prod]
  refine bigSep_congr fun c _ => bigSep_congr fun i _ => congrArg Φ (Fin.ext ?_)
  show c.val + 2 * i.val = 2 * i.val + c.val
  omega

/-! ## The blocks of an output -/

theorem odiv : 256 ∣ S32768x128.size 0 := ⟨128, rfl⟩

/-- Block `k` of task `w`. -/
abbrev blkRect (w : Fin 32) (k : Fin 8) : Rect S32768x128 := Rect.part (s := S32768x128) (a₀ := 0) odiv (finProdFinEquiv (w, k))

theorem outRect_eq (L : grid0.Coords) (k : Fin 8) : outRect L k = blkRect (widF L) k := by
  unfold outRect blkRect Rect.part Rect.block
  congr 1 <;> funext a
  · rw [k0_off2_eq]
    match a with
    | 0 =>
      show 2048 * (L 1).val + 1024 * (L 0).val + 128 * k.val = (k.val + 8 * (2 * (L 1).val + (L 0).val)) * 128
      omega
    | 1 => rfl
  · match a with
    | 0 => rfl
    | 1 => rfl

theorem blks_disjoint : ∀ p ∈ (Finset.univ : Finset (Fin 32 × Fin 8)), ∀ p' ∈ (Finset.univ : Finset (Fin 32 × Fin 8)), p ≠ p' →
    Disjoint (blkRect p.1 p.2).set (blkRect p'.1 p'.2).set :=
  fun _ _ _ _ h => Rect.part_disjoint odiv fun e => h (finProdFinEquiv.injective e)

theorem blks_cover : (Finset.univ : Finset (Fin 32 × Fin 8)).biUnion (fun p => (blkRect p.1 p.2).set) = Finset.univ := by
  rw [← Rect.biUnion_part odiv]
  ext x
  simp only [Finset.mem_biUnion, Finset.mem_univ, true_and]
  exact finProdFinEquiv.exists_congr_left.trans (by simp [blkRect])

/-- The cosine output held whole is its blocks, task by task. -/
theorem co_blocks (d : Dev nD) (f : S32768x128.Idx → Elt F .f32) :
    (coLoc d ↦{fullShare} f : sProp 𝕄) = bigSep Finset.univ fun w : Fin 32 => bigSep Finset.univ fun k : Fin 8 => coLoc d ↦[(blkRect w k).set]{fullShare} f := by
  rw [← bigSep_univ_prod (fun p : Fin 32 × Fin 8 => (coLoc d ↦[(blkRect p.1 p.2).set]{fullShare} f : sProp 𝕄)),
    ← pointsTo_biUnion Finset.univ (ℓ := coLoc d) (fun p : Fin 32 × Fin 8 => (blkRect p.1 p.2).set) blks_disjoint, blks_cover]; try rfl

/-- and the sine output. -/
theorem so_blocks (d : Dev nD) (f : S32768x128.Idx → Elt F .f32) :
    (soLoc d ↦{fullShare} f : sProp 𝕄) = bigSep Finset.univ fun w : Fin 32 => bigSep Finset.univ fun k : Fin 8 => soLoc d ↦[(blkRect w k).set]{fullShare} f := by
  rw [← bigSep_univ_prod (fun p : Fin 32 × Fin 8 => (soLoc d ↦[(blkRect p.1 p.2).set]{fullShare} f : sProp 𝕄)),
    ← pointsTo_biUnion Finset.univ (ℓ := soLoc d) (fun p : Fin 32 × Fin 8 => (blkRect p.1 p.2).set) blks_disjoint, blks_cover]; try rfl

/-! ## The arrays and the parts -/

/-- A task's share of the arrays that every task reads. -/
def shareOf (w : Fin 32) : PosShare TreeShare := pieceOf fullShare 32 (by decide) w

section Arrays

variable (d : Dev nD) (pos : S256x128.Idx → Elt F .i32) (cs sn : S8192x128.Idx → Elt F .f32)

/-- The call's arrays, whole: the position words, the tables, the outputs at `f` and `g`. -/
def Arrays (f g : S32768x128.Idx → Elt F .f32) : sProp 𝕄 :=
  iprop((pLoc d ↦{fullShare} pos) ∗ (cLoc d ↦{fullShare} cs) ∗ (sLoc d ↦{fullShare} sn) ∗ (coLoc d ↦{fullShare} f) ∗ soLoc d ↦{fullShare} g)

/-- The part of the task of SparseCore `c`'s subcore `i`. -/
abbrev PartAt (f g : S32768x128.Idx → Elt F .f32) (c : Fin 2) (i : Fin 16) : sProp 𝕄 :=
  Part d (coords c i) (shareOf (widF (coords c i))) pos cs sn f g

/-- The arrays are the tasks' parts. -/
theorem arrays_parts (f g : S32768x128.Idx → Elt F .f32) :
    (Arrays d pos cs sn f g : sProp 𝕄) = bigSep Finset.univ fun c : Fin 2 => bigSep Finset.univ fun i : Fin 16 => PartAt d pos cs sn f g c i := by
  unfold Arrays PartAt Part
  simp only [outRect_eq]
  rw [← bigSep_tasks (fun w : Fin 32 => (iprop((pLoc d ↦{shareOf w} pos) ∗ (cLoc d ↦{shareOf w} cs) ∗ (sLoc d ↦{shareOf w} sn)
    ∗ (bigSep Finset.univ fun k : Fin 8 => coLoc d ↦[(blkRect w k).set]{fullShare} f)
    ∗ bigSep Finset.univ fun k : Fin 8 => soLoc d ↦[(blkRect w k).set]{fullShare} g) : sProp 𝕄)),
    bigSep_sep', bigSep_sep', bigSep_sep', bigSep_sep', ← co_blocks, ← so_blocks]
  unfold shareOf
  rw [← pointsTo_piecesOf, ← pointsTo_piecesOf, ← pointsTo_piecesOf]

end Arrays

end Cert.Proof.Rope

end
-- ==== Proof.Launch.lean ====
/-
  The whole program: what the launch hands the tasks and takes back, the main function around the call, and the run from
  any memory whose position words are rows of the tables. It ends with the arguments as they were, the two results at
  the rows the position words name, and every semaphore at zero.
-/
module

public import proofs.«01_k».proof.Proof.Split

@[expose] public section

noncomputable section

namespace Cert.Proof.Rope

open Cert.KernelIdeal Cert.KernelIdeal.Gen

open Idealize.ShloMosaic
open Idealize.ShloMosaic.SparseCore (V)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The values -/

/-- The position words as the kernel reads them: 256 rows of 128. -/
def posOf (d : Dev nD) : S256x128.Idx → Elt F .i32 := shapeCast S256x128 (m (aLoc d)) shapeCasts_S4x8192_S256x128

/-- The two outputs of the call, and the program's two results. -/
def coOf (d : Dev nD) : S32768x128.Idx → Elt F .f32 := rowsAt (posOf m d) (m (cLoc d))
def soOf (d : Dev nD) : S32768x128.Idx → Elt F .f32 := rowsAt (posOf m d) (m (sLoc d))
def out0 (d : Dev nD) : S4x8192x128.Idx → Elt F .f32 := shapeCast S4x8192x128 (coOf m d) shapeCasts_S32768x128_S4x8192x128
def out1 (d : Dev nD) : S4x8192x128.Idx → Elt F .f32 := shapeCast S4x8192x128 (soOf m d) shapeCasts_S32768x128_S4x8192x128

/-- What the run asks of the launch memory: every position word is a row of the tables. -/
def PreOK : Prop := ∀ (d : Dev nD) (j : S4x8192.Idx), (m (aLoc d) j).toNat < 8192

theorem pos_lt (hpre : PreOK m) (d : Dev nD) (j : S256x128.Idx) : (posOf m d j).toNat < 8192 := hpre d _

/-! ## What the launch hands the tasks -/

/-- Each core is handed its tasks' parts, the outputs' blocks as the launch left them, and gives them back with the
    blocks at the rows named. -/
def P : (K (F := F)).Pay (nD := nD) (Val := Elt F) (Name := ℕ) (U := UU) where
  st := fun q d c => match q with | 0 => bigSep Finset.univ fun i : Fin 16 => PartAt d (posOf m d) (m (cLoc d)) (m (sLoc d)) (m (coLoc d)) (m (soLoc d)) c i
  dn := fun q d c => match q with | 0 => bigSep Finset.univ fun i : Fin 16 => PartAt d (posOf m d) (m (cLoc d)) (m (sLoc d)) (coOf m d) (soOf m d) c i
  go := fun q d c i => match q with | 0 => PartAt d (posOf m d) (m (cLoc d)) (m (sLoc d)) (m (coLoc d)) (m (soLoc d)) c i
  td := fun q d c i => match q with | 0 => PartAt d (posOf m d) (m (cLoc d)) (m (sLoc d)) (coOf m d) (soOf m d) c i
  x := fun _ _ => iprop(emp)

theorem parts_storable (d : Dev nD) (c : Fin 2) (pos : S256x128.Idx → Elt F .i32) (cs sn : S8192x128.Idx → Elt F .f32) (f g : S32768x128.Idx → Elt F .f32) :
    BI.Storable (upEmb : UEmb _ 𝕄) (bigSep Finset.univ fun i : Fin 16 => PartAt d pos cs sn f g c i) :=
  @BI.Storable.bigSep _ _ _ _ _ _ _ _ _ fun i => Part_storable d (coords c i) _ pos cs sn f g

instance P_storable : (P (F := F) m).IsStorable where
  st q d c := match q with
    | 0 => parts_storable d c (posOf m d) (m (cLoc d)) (m (sLoc d)) (m (coLoc d)) (m (soLoc d))
  dn q d c := match q with
    | 0 => parts_storable d c (posOf m d) (m (cLoc d)) (m (sLoc d)) (coOf m d) (soOf m d)
  go q d c i := match q with
    | 0 => Part_storable d _ _ _ _ _ _ _
  td q d c i := match q with
    | 0 => Part_storable d _ _ _ _ _ _ _

theorem st0_eq (d : Dev nD) :
    (bigSep Finset.univ fun c : Fin ((K (F := F)).nCore 0) => (P m).st 0 d c)
      = Arrays d (posOf m d) (m (cLoc d)) (m (sLoc d)) (m (coLoc d)) (m (soLoc d)) := (arrays_parts ..).symm
theorem dn0_eq (d : Dev nD) :
    (bigSep Finset.univ fun c : Fin ((K (F := F)).nCore 0) => (P m).dn 0 d c)
      = Arrays d (posOf m d) (m (cLoc d)) (m (sLoc d)) (coOf m d) (soOf m d) := (arrays_parts ..).symm

theorem vecSplit : (K (F := F)).VecSplit' (P m) 0 := by
  intro d c
  show (bigSep Finset.univ fun i : Fin 16 => PartAt d (posOf m d) (m (cLoc d)) (m (sLoc d)) (m (coLoc d)) (m (soLoc d)) c i) ⊢ |={Set.univ}=> iprop(
      (bigSep Finset.univ fun i : Fin 16 => PartAt d (posOf m d) (m (cLoc d)) (m (sLoc d)) (m (coLoc d)) (m (soLoc d)) c i)
      ∗ ((bigSep Finset.univ fun i : Fin 16 => PartAt d (posOf m d) (m (cLoc d)) (m (sLoc d)) (coOf m d) (soOf m d) c i)
          -∗ bigSep Finset.univ fun i : Fin 16 => PartAt d (posOf m d) (m (cLoc d)) (m (sLoc d)) (coOf m d) (soOf m d) c i))
  iintro H; imodintro
  iframe H
  iintro H; iexact H

variable [FloatOps F]

/-! ## The tasks' obligation -/

theorem defs₀_vector (c : Fin τ.nSC) (s : Fin τ.nSub) :
    defs₀ (F := F) (.scVector c s) 0 ()
      = SparseCore.onTile hcore0 hsub0 (fun c s => cc0_gather_kernel (F := F) (coords c s) pV (Memref.isWhole_whole _) cosV (Memref.isWhole_whole _)
        sinV (Memref.isWhole_whole _) coV (Memref.isWhole_whole _) soV (Memref.isWhole_whole _) idxV (Memref.isWhole_whole _)
        rowCV (Memref.isWhole_whole _) rowSV (Memref.isWhole_whole _) cc0_scratch3 cc0_scratch4 cc0_scoped0 cc0_scoped1 cc0_scoped2
        cc0_scoped3 cc0_scoped4 cc0_scoped5 cc0_scoped6 cc0_scoped7 cc0_scoped8 cc0_scoped9 cc0_scoped10 cc0_scoped11 cc0_scoped12
        cc0_scoped13 cc0_scoped14 cc0_scoped15 cc0_scoped16) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [kernel_eq]
  refine (tile_body d (coords ⟨_, hci.1⟩ ⟨_, hci.2⟩) (shareOf (widF (coords ⟨_, hci.1⟩ ⟨_, hci.2⟩))) (posOf m d) (m (cLoc d)) (m (sLoc d)) hF
    (pos_lt m hpre d) (m (coLoc d)) (m (soLoc d)) O W hO).trans (wp_mono frame _ _ fun _ => ?_)
  unfold Owed
  iintro ⟨HP, HB, HS, %W', %hW', HO⟩
  isplitl [HP]
  · iapply (Entails.of_eq (show Part d (coords ⟨_, hci.1⟩ ⟨_, hci.2⟩) (shareOf (widF (coords ⟨_, hci.1⟩ ⟨_, hci.2⟩))) (posOf m d) (m (cLoc d)) (m (sLoc d))
      (rowsAt (posOf m d) (m (cLoc d))) (rowsAt (posOf m d) (m (sLoc d))) = (P m).td 0 d c i from rfl)) $$ HP
  iframe HB HS
  iexists W'; iframe HO
  ipureintro
  exact fun p hp => (hW' p hp).imp_right Or.inl

/-! ## The ghost state at the launch -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing, bigSep_nothing]
  iframe HH
  isplitr <;> iempintro

/-! ## The main function -/

include m in
/-- A reshape on the host, from the array it reads and the array it writes. -/
theorem reshape_step {x y : Ref sig .tc} (hxy : (Proc.devRef .tc x : DevRef τ sig) ≠ Proc.devRef .tc y) {he : x.ty.elt = y.ty.elt}
    {hn : x.ty.shape.ShapeCasts y.ty.shape} {hx : x.space ≠ .host ∧ (Proc.devRef .tc x : DevRef τ sig).isScoped = false}
    {hy : y.space ≠ .host ∧ (Proc.devRef .tc y : DevRef τ sig).isScoped = false} (d : Dev nD) {α : Type} {Q : α → sProp 𝕄}
    (f : x.ty.Contents (Elt F)) (g : y.ty.Contents (Elt F)) {hp : (SparseCore.T d : Thread nD τ).2.kind.runsHlo = true}
    {k : ((b : (StableHlo.reshape (Val := Elt F) x y he hn hx hy).writes) → b.1.ty.Contents (Elt F)) →
      Prog (TpuEff nD τ sig (Elt F) (SparseCore.Sig (ΛP (F := F)) 1) (SparseCore.T d : Thread nD τ).2) α} :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f)
            ∗ ((SparseCore.T d).loc y ↦{fullShare} fun i => he ▸ shapeCast y.ty.shape f hn i))
          -∗ ∀ r, wp frame (wpE ((K (F := F)).defs (D (F := F))) 𝒱 (SparseCore.T d) none) Set.univ (k r) Q)
        -∗ wp frame (wpE ((K (F := F)).defs (D (F := F))) 𝒱 (SparseCore.T d) none) Set.univ (hlo hp (StableHlo.reshape x y he hn hx hy) k) Q) := by
  have V₁ : Valuation τ sig (Elt F) := fun b => m (d, b)
  let V₂ : Valuation τ sig (Elt F) := Function.update (Function.update V₁ (Proc.devRef .tc x) f) (Proc.devRef .tc y) g
  have e (W : Valuation τ sig (Elt F)) : (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold StableHlo.held
    rw [SparseCore.bigSep_insert' (Finset.notMem_singleton.mpr hxy), bigSep_singleton]
  have ex : V₂ (Proc.devRef .tc x) = f := (Function.update_of_ne hxy _ _).trans (Function.update_self _ _ _)
  have ey : V₂ (Proc.devRef .tc y) = g := Function.update_self _ _ _
  have rx : (StableHlo.reshape x y he hn hx hy : HloOp τ sig (Elt F)).result V₂ (Proc.devRef .tc x) = f :=
    (HloOp.result_of_not_mem _ _ (Finset.notMem_singleton.mpr hxy)).trans ex
  have ry : (StableHlo.reshape x y he hn hx hy : HloOp τ sig (Elt F)).result V₂ (Proc.devRef .tc y) = fun i => he ▸ shapeCast y.ty.shape f hn i := by
    rw [StableHlo.reshape_result, ex]
  iintro ⟨Hb, Hx, Hy⟩ Hk
  iapply (StableHlo.wp_hlo_within 𝒱 (SparseCore.T d) none Set.univ (op := StableHlo.reshape x y he hn hx hy)
    (S := {Proc.devRef .tc x, Proc.devRef .tc y}) (Finset.Subset.refl _) (V := V₂)) $$ [Hb Hx Hy]
  · rw [e, ex, ey]; iframe Hb Hx Hy
  rw [e, rx, ry]
  iintro H
  ihave Hk := Hk $$ H
  iapply Hk

/-- What the main function leaves: the arguments, and the results at their values. -/
abbrev FIN (d : Dev nD) : sProp 𝕄 :=
  iprop((xLoc d ↦{fullShare} m (xLoc d)) ∗ (aLoc d ↦{fullShare} m (aLoc d)) ∗ (cLoc d ↦{fullShare} m (cLoc d)) ∗ (sLoc d ↦{fullShare} m (sLoc d))
    ∗ (r0Loc d ↦{fullShare} out0 m d) ∗ (r1Loc d ↦{fullShare} out1 m d))

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (cLoc d ↦{fullShare} W main_arg2) ∗ (sLoc d ↦{fullShare} W main_arg3)
          ∗ (pLoc d ↦{fullShare} W main_v0) ∗ (coLoc d ↦{fullShare} W main_v1_0) ∗ (soLoc d ↦{fullShare} W main_v1_1)
          ∗ (r0Loc d ↦{fullShare} W main_v2) ∗ r1Loc d ↦{fullShare} W main_v3) := by
  unfold unscopedBufs
  rw [show (Finset.univ.filter fun b : Ref sig .tc => ¬ b.isScoped)
      = {main_arg0, main_arg1, main_arg2, main_arg3, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The main function on a device: the position words reshaped, the call, the two outputs reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ha, Hc, Hs, Hp, Hco, Hso, Hr0, Hr1⟩, Hts, -⟩, -⟩
  iapply (reshape_step m (by decide) d (m (aLoc d)) (m (pLoc d))) $$ [Hb Ha Hp]
  · iframe Hb Ha Hp
  iintro ⟨Hb, Ha, Hp⟩ %_
  rw [wp_ret]; imodintro
  iapply ((K (F := F)).wp_run (D (F := F)) 𝒱 (EH := EH) (P := P m) κ d 0) $$ [Hst Hp Hc Hs Hco Hso Hb Hts Hx Ha Hr0 Hr1]
  isplitr; · iexact Hctx
  isplitl [Hst]; · iexact Hst
  isplitl [Hp Hc Hs Hco Hso]
  · rw [st0_eq]
    unfold Arrays
    isplitl [Hp]; · iexact Hp
    iframe Hc Hs Hco Hso
  iintro ⟨Hst, Hdn⟩
  ihave Hdn := (Entails.of_eq (dn0_eq m d)) $$ Hdn
  ihave Hdn := (show Arrays d (posOf m d) (m (cLoc d)) (m (sLoc d)) (coOf m d) (soOf m d) ⊢ (iprop((pLoc d ↦{fullShare} posOf m d) ∗ (cLoc d ↦{fullShare} m (cLoc d))
    ∗ (sLoc d ↦{fullShare} m (sLoc d)) ∗ (coLoc d ↦{fullShare} coOf m d) ∗ soLoc d ↦{fullShare} soOf m d) : sProp 𝕄) from .refl) $$ Hdn
  icases Hdn with ⟨-, Hc, Hs, Hco, Hso⟩
  iapply (reshape_step m (by decide) d (coOf m d) (m (r0Loc d))) $$ [Hb Hco Hr0]
  · iframe Hb Hco Hr0
  iintro ⟨Hb, -, Hr0⟩ %_
  rw [wp_ret]; imodintro
  iapply (reshape_step m (by decide) d (soOf m d) (m (r1Loc d))) $$ [Hb Hso Hr1]
  · iframe Hb Hso Hr1
  iintro ⟨Hb, -, Hr1⟩ %_
  rw [wp_ret]; imodintro; imodintro
  iframe Hst Hx Ha Hc Hs
  isplitl [Hr0 Hr1]
  · isplitl [Hr0]
    · iexact Hr0
    · iexact Hr1
  iframe Hb Hts

/-! ## The run -/

/-- What the claims read of a device's final memory. -/
def fq (d : Dev nD) (s : Phys nD τ sig (Elt F)) : Prop :=
  s.mem.mem (xLoc d) = m (xLoc d) ∧ s.mem.mem (aLoc d) = m (aLoc d) ∧ s.mem.mem (cLoc d) = m (cLoc d) ∧ s.mem.mem (sLoc d) = m (sLoc d)
    ∧ s.mem.mem (r0Loc d) = out0 m d ∧ s.mem.mem (r1Loc d) = out1 m d

/-- An array held whole is what the memory holds. -/
theorem agrees (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  iframe HSI
  ipureintro; exact funext fun i => h i (Finset.mem_univ i)

theorem hfin (d : Dev nD) (s : Phys nD τ sig (Elt F)) : iprop(FIN m d ∗ SI s) ⊢ (⌜fq m d s⌝ : sProp 𝕄) := by
  iintro ⟨⟨Hx, Ha, Hc, Hs, Hr0, Hr1⟩, HSI⟩
  ihave H := (agrees s _ _) $$ [Hx HSI]
  · iframe Hx HSI
  icases H with ⟨%h1, HSI⟩
  ihave H := (agrees s _ _) $$ [Ha HSI]
  · iframe Ha HSI
  icases H with ⟨%h2, HSI⟩
  ihave H := (agrees s _ _) $$ [Hc HSI]
  · iframe Hc HSI
  icases H with ⟨%h3, HSI⟩
  ihave H := (agrees s _ _) $$ [Hs HSI]
  · iframe Hs HSI
  icases H with ⟨%h4, HSI⟩
  ihave H := (agrees s _ _) $$ [Hr0 HSI]
  · iframe Hr0 HSI
  icases H with ⟨%h5, HSI⟩
  ihave H := (agrees s _ _) $$ [Hr1 HSI]
  · iframe Hr1 HSI
  icases H with ⟨%h6, -⟩
  ipureintro
  exact ⟨h1, h2, h3, h4, h5, h6⟩

/-- What a run of the program ends in. -/
def Ends (r : PUnit × MemSt nD τ sig (Elt F)) : Prop :=
  (∀ c : Dev nD, r.2.mem (xLoc c) = m (xLoc c) ∧ r.2.mem (aLoc c) = m (aLoc c) ∧ r.2.mem (cLoc c) = m (cLoc c) ∧ r.2.mem (sLoc c) = m (sLoc c)
    ∧ r.2.mem (r0Loc c) = out0 m c ∧ r.2.mem (r1Loc c) = out1 m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Rope

end
-- ==== Proof.Reference.lean ====
/-
  The reference's results. Where every position word is a row of the tables, its index arithmetic changes nothing, its
  test for a row out of range never fires, and its gather reads the rows named (`taken_eq`); and the kernel's results,
  reshaped, are the same function of the position words and the table (`reshaped_eq`).
-/
module

public import proofs.«01_k».proof.Proof.Launch
public import proofs.«01_k».proof.Proof.Gen.ReferenceIdeal.Run
public import Idealize.ShloMosaic.Lib.ReduceAll

@[expose] public section

noncomputable section

namespace Cert.Proof.Rope

open Idealize.ShloMosaic
open Idealize.ShloMosaic.Shape (pair pair_eta)

variable {F : FTy → Type}

/-- The rows the position words name, at a batch entry, a place in it and a lane. -/
def named (a : (⟨2, ![4, 8192]⟩ : Shape).Idx → BitVec 32) (t : (⟨2, ![8192, 128]⟩ : Shape).Idx → Elt F .f32) :
    (⟨3, ![4, 8192, 128]⟩ : Shape).Idx → Elt F .f32 := fun x =>
  t (pair (d := ![8192, 128]) (rowOf (a (pair (d := ![4, 8192]) (x 0) (x 1)))) (x 2))

/-! ## The kernel's results -/

section Kernel

open Cert.KernelIdeal Cert.KernelIdeal.Gen

/-- A token's position word, in the rows of 128, is the one at its batch entry and place. -/
theorem reshape_pos (a : S4x8192.Idx → Elt F .i32) (x : S4x8192x128.Idx) (n : Fin 32768) (hn : n.val = 8192 * (x 0).val + (x 1).val)
    (h0 : n.val / 128 < 256) (h1 : n.val % 128 < 128) :
    shapeCast S256x128 a shapeCasts_S4x8192_S256x128 (pair (d := ![256, 128]) ⟨n.val / 128, h0⟩ ⟨n.val % 128, h1⟩)
      = a (pair (d := ![4, 8192]) (x 0) (x 1)) := by
  refine congrArg a (Shape.reshapeEquiv_eq_of_rowMajor _ ?_)
  rw [Shape.rowMajor_val_two, Shape.rowMajor_val_two]
  show (x 0).val * 8192 + (x 1).val = n.val / 128 * 128 + n.val % 128
  omega

/-- The kernel's output, reshaped, is the rows the position words name. -/
theorem reshaped_eq (a : S4x8192.Idx → Elt F .i32) (t : S8192x128.Idx → Elt F .f32) :
    shapeCast S4x8192x128 (rowsAt (shapeCast S256x128 a shapeCasts_S4x8192_S256x128) t) shapeCasts_S32768x128_S4x8192x128 = named a t := by
  funext x
  have h0 : (x 0).val < 4 := (x 0).isLt
  have h1 : (x 1).val < 8192 := (x 1).isLt
  have hx : Shape.reshapeEquiv shapeCasts_S32768x128_S4x8192x128 x
      = pair (d := ![32768, 128]) ⟨8192 * (x 0).val + (x 1).val, by show _ < 32768; omega⟩ (x 2) := by
    refine Shape.reshapeEquiv_eq_of_rowMajor _ ?_
    rw [Shape.rowMajor_val_two, Shape.rowMajor_val_three]
    show (8192 * (x 0).val + (x 1).val) * 128 + (x 2).val = ((x 0).val * 8192 + (x 1).val) * 128 + (x 2).val
    omega
  show rowsAt _ t (Shape.reshapeEquiv shapeCasts_S32768x128_S4x8192x128 x) = _
  rw [hx]
  unfold rowsAt named
  refine congrArg (fun z => t (pair (d := ![8192, 128]) (rowOf z) (x 2))) ?_
  exact reshape_pos a x ⟨8192 * (x 0).val + (x 1).val, by omega⟩ rfl _ _

end Kernel

/-! ## The reference's -/

section Take

open Cert.ReferenceIdeal Cert.ReferenceIdeal.Gen

variable [FloatOps F]

/-- The start indices the reference gathers at: the position words, one below zero counted from the table's end. -/
abbrev starts (a : S4x8192.Idx → BitVec 32) : S4x8192x1.Idx → BitVec 32 :=
  broadcastInDim S4x8192x1 ![0, 1] bcast_S4x8192_S4x8192x1_0_1 (select (cmpi .slt a (broadcastInDim S4x8192 ![] bcast_S_S4x8192 (constantI S_ 32 0#32))) (addi a (broadcastInDim S4x8192 ![] bcast_S_S4x8192 (constantI S_ 32 8192#32))) a)

/-- Where the start indices are in range. -/
abbrev inRange (a : S4x8192.Idx → BitVec 32) : S4x8192.Idx → BitVec 1 :=
  Host.reduce IntOp.andi (andi (cmpi .sge (starts a) (broadcastInDim S4x8192x1 ![] bcast_S_S4x8192x1 (constantI S_ 32 0#32))) (cmpi .sle (starts a) (broadcastInDim S4x8192x1 ![0, 1, 2] bcast_S1x1x1_S4x8192x1_0_1_2 (broadcastInDim S1x1x1 ![2] bcast_S1_S1x1x1_2 (constantI S1 32 8191#32))))) (constantI S_ 1 1#1) reducesTo_S4x8192x1_S4x8192_d2 h_S_

/-- What the reference takes from a table: the gathered rows, and a constant in place of a row out of range. -/
abbrev taken (a : S4x8192.Idx → BitVec 32) (t : S8192x128.Idx → Elt F .f32) : S4x8192x128.Idx → Elt F .f32 :=
  select (broadcastInDim S4x8192x128 ![0, 1] bcast_S4x8192_S4x8192x128_0_1 (inRange a))
    (Host.gather gather_S8192x128_S4x8192x1_S4x8192x128_2_0_n_n_0_2_1128 t (starts a))
    (broadcastInDim S4x8192x128 ![] bcast_S_S4x8192x128 (constant S_ .f32 0x7FC00000#32))

/-- A word below 8192 is not negative as a signed word and reads the same signed. -/
theorem toInt_small {v : BitVec 32} (h : v.toNat < 8192) : v.toInt = (v.toNat : ℤ) := by
  rw [BitVec.toInt_eq_toNat_cond, if_pos (by omega)]

theorem slt_zero {v : BitVec 32} (h : v.toNat < 8192) : IntOp.cmpi .slt v 0#32 = 0#1 := by
  have e : v.slt 0#32 = false := by
    rw [BitVec.slt_eq_decide, toInt_small h]; exact decide_eq_false (by simp)
  show BitVec.ofBool (v.slt 0#32) = 0#1
  rw [e]; rfl

theorem between {v : BitVec 32} (h : v.toNat < 8192) : IntOp.andi (IntOp.cmpi .sge v 0#32) (IntOp.cmpi .sle v 8191#32) = 1#1 := by
  have e0 : (0#32 : BitVec 32).sle v = true := by
    rw [BitVec.sle_eq_decide, toInt_small h]; exact decide_eq_true (by simp)
  have e1 : v.sle 8191#32 = true := by
    rw [BitVec.sle_eq_decide, toInt_small h]
    refine decide_eq_true ?_
    show (v.toNat : ℤ) ≤ 8191
    omega
  show BitVec.ofBool ((0#32 : BitVec 32).sle v) &&& BitVec.ofBool (v.sle 8191#32) = 1#1
  rw [e0, e1]; rfl

/-- A start index is the position word. -/
theorem starts_apply (a : S4x8192.Idx → BitVec 32) (h : ∀ j, (a j).toNat < 8192) (y : S4x8192x1.Idx) :
    starts a y = a (pair (d := ![4, 8192]) (y 0) (y 1)) := by
  have hs : ∀ j : S4x8192.Idx, select (cmpi .slt a (broadcastInDim S4x8192 ![] bcast_S_S4x8192 (constantI S_ 32 0#32))) (addi a (broadcastInDim S4x8192 ![] bcast_S_S4x8192 (constantI S_ 32 8192#32))) a j = a j := by
    intro j
    show Scalar.select (IntOp.cmpi .slt (a j) 0#32) _ (a j) = a j
    rw [slt_zero (h j)]; rfl
  refine (hs _).trans (congrArg a ?_)
  funext b
  refine Fin.ext ?_
  match b with
  | ⟨0, _⟩ => rfl
  | ⟨1, _⟩ => rfl

/-- Every start index is in range. -/
theorem inRange_apply (a : S4x8192.Idx → BitVec 32) (h : ∀ j, (a j).toNat < 8192) (j : S4x8192.Idx) : inRange a j = 1#1 := by
  refine Host.reduce_andi_one _ _ _ _ _ rfl fun y => ?_
  show IntOp.andi (IntOp.cmpi .sge (starts a y) 0#32) (IntOp.cmpi .sle (starts a y) 8191#32) = 1#1
  rw [starts_apply a h y]
  exact between (h _)

/-- The gather reads the row its start index names. -/
theorem gather_apply (a : S4x8192.Idx → BitVec 32) (h : ∀ j, (a j).toNat < 8192) (t : S8192x128.Idx → Elt F .f32) (x : S4x8192x128.Idx) :
    Host.gather gather_S8192x128_S4x8192x1_S4x8192x128_2_0_n_n_0_2_1128 t (starts a) x = named a t x := by
  unfold Host.gather named
  refine congrArg t ?_
  funext b
  refine Fin.ext ?_
  show GatherDims.start _ x (starts a) b + GatherDims.batchCoord _ x b + GatherDims.offCoord _ x b = _
  rw [GatherDims.batchCoord_eq_zero _ _ _ (show b ∉ ([] : List (Fin 2)) from List.not_mem_nil)]
  match b with
  | ⟨0, h0⟩ =>
    rw [GatherDims.offCoord_eq_zero _ _ _ (fun hb => ((GatherDims.mem_sKept _ _).mp hb).1 (List.mem_singleton.mpr rfl))]
    unfold GatherDims.start
    rw [dif_pos (show (⟨0, h0⟩ : Fin 2) ∈ gather_S8192x128_S4x8192x1_S4x8192x128_2_0_n_n_0_2_1128.startIndexMap from List.mem_singleton.mpr rfl)]
    rw [starts_apply a h]
    have e := h (pair (d := ![4, 8192]) (x 0) (x 1))
    show min (a (pair (d := ![4, 8192]) (x 0) (x 1))).toInt.toNat (8192 - 1) = (rowOf (a (pair (d := ![4, 8192]) (x 0) (x 1)))).val
    rw [rowOf_val e, toInt_small e, Int.toNat_natCast]
    omega
  | ⟨1, h1⟩ =>
    unfold GatherDims.start
    rw [dif_neg (show (⟨1, h1⟩ : Fin 2) ∉ gather_S8192x128_S4x8192x1_S4x8192x128_2_0_n_n_0_2_1128.startIndexMap from fun hb => by
      have := congrArg Fin.val (List.mem_singleton.mp hb); simp at this)]
    rw [Nat.zero_add]
    unfold GatherDims.offCoord
    rw [dif_pos ((GatherDims.mem_sKept _ _).mpr ⟨fun hb => by
      have := congrArg Fin.val (List.mem_singleton.mp hb); simp at this, show (⟨1, h1⟩ : Fin 2) ∉ ([] : List (Fin 2)) from List.not_mem_nil⟩)]
    rfl

/-- A select takes its first operand where its condition holds. -/
theorem select_one {s : Shape} {α : Type} (c : s.Idx → BitVec 1) (p q : s.Idx → α) (x : s.Idx) (h : c x = 1#1) : select c p q x = p x :=
  if_pos h

/-- Where every position word is a row of the table, the reference takes the rows named. -/
theorem taken_eq (a : S4x8192.Idx → BitVec 32) (h : ∀ j, (a j).toNat < 8192) (t : S8192x128.Idx → Elt F .f32) : taken a t = named a t := by
  funext x
  refine (select_one _ _ _ x ?_).trans (gather_apply a h t x)
  unfold broadcastInDim
  exact inRange_apply a h _

end Take

end Cert.Proof.Rope

end
-- ==== Proof.lean ====
/-
  The certificate: `Cert.Claim`. The kernel's run, at any float values, is `Rope.run_main` (Proof/Launch.lean): from a
  memory whose position words are rows of the tables it ends with the arguments as they were, the two results at the rows
  named, and every semaphore at zero. The reference's run is the generated `Cert.ReferenceIdeal.Value.run`, its results
  read in Proof/Reference.lean. Here the precondition is read as a bound on the words, and the claims are put together.
-/
module

public import proofs.«01_k».proof.Defs
public import proofs.«01_k».proof.Proof.Launch
public import proofs.«01_k».proof.Proof.Reference
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_cache
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-! ## The precondition -/

/-- A word at least zero and below 8192, both signed, is below 8192. -/
theorem word_lt (v : BitVec 32) (h : IntOp.andi (IntOp.cmpi .sge v 0#32) (IntOp.cmpi .slt v 8192#32) = 1#1) : v.toNat < 8192 := by
  have both : ∀ p q : Bool, BitVec.ofBool p &&& BitVec.ofBool q = 1#1 → p = true ∧ q = true := by decide
  obtain ⟨h0, h1⟩ := both ((0#32 : BitVec 32).sle v) (v.slt 8192#32) h
  simp only [BitVec.sle_eq_decide, BitVec.slt_eq_decide, decide_eq_true_eq, BitVec.toInt_eq_toNat_cond, BitVec.toNat_ofNat, Nat.reducePow,
    Nat.reduceMod] at h0 h1
  omega

/-- Where the precondition holds of the arguments, every position word is a row of the tables. -/
theorem pos_of_pre {F : FTy → Type} [FloatOps F] {x : Cert.Pre_in_cache.S4x8192x4096.Idx → Elt F .f32} {a : Cert.Pre_in_cache.S4x8192.Idx → BitVec 32}
    {c s : Cert.Pre_in_cache.S8192x128.Idx → Elt F .f32} (h : Cert.Pre_in_cache.fn (F := F) x a c s = fun _ => 1#1) (j : Cert.Pre_in_cache.S4x8192.Idx) :
    (a j).toNat < 8192 :=
  word_lt _ (congrFun h j)

/-! ## The frames -/

theorem frame_kernel : Cert.quiescent_Kernel := fun m ρ h =>
  (θ_run Cert.KernelIdeal.defs _ _).mono (fun _ e => ⟨fun c => ⟨(e.1 c).1, (e.1 c).2.1, (e.1 c).2.2.1, (e.1 c).2.2.2.1⟩, e.2⟩)
    (Rope.run_main (F := Bits) m ρ fun d => pos_of_pre (h d))

theorem frame_kernelIdeal : Cert.quiescent_KernelIdeal := fun m ρ h =>
  (θ_run Cert.KernelIdeal.defs _ _).mono (fun _ e => ⟨fun c => ⟨(e.1 c).1, (e.1 c).2.1, (e.1 c).2.2.1, (e.1 c).2.2.2.1⟩, e.2⟩)
    (Rope.run_main (F := Ideal) m ρ fun d => pos_of_pre (h d))

theorem frame_reference : Cert.quiescent_ReferenceIdeal := fun m ρ _ =>
  (θ_run Cert.ReferenceIdeal.defs _ _).mono (fun r e => ⟨fun c => (e c).2.2, sem_eq_zero_of_no_sems (by decide) r.2⟩)
    (Cert.ReferenceIdeal.Value.run (F := Ideal) m ρ)

theorem frame_reference_pre : Cert.quiescent_ReferenceIdeal_pre_in_cache := fun m ρ _ => frame_reference m ρ trivial

/-! ## The values -/

/-- The two results of each program are the rows of the two tables that the position words name. -/
theorem values : Cert.algebraic_KernelIdeal_ReferenceIdeal := by
  intro m ρ m' ρ' hpre hag
  have hpos : Rope.PreOK m := fun d => pos_of_pre (hpre d)
  refine ⟨fun c => Rope.named (m (Rope.aLoc c)) (m (Rope.cLoc c)), fun c => Rope.named (m (Rope.aLoc c)) (m (Rope.sLoc c)), ?_, ?_⟩
  · refine (θ_run Cert.KernelIdeal.defs _ _).mono (fun r e c => ?_) (Rope.run_main (F := Ideal) m ρ hpos)
    obtain ⟨hx, ha, hc, hs, h0, h1⟩ := e.1 c
    exact ⟨h0.trans (Rope.reshaped_eq _ _), h1.trans (Rope.reshaped_eq _ _), hx, ha, hc, hs⟩
  · refine (θ_run Cert.ReferenceIdeal.defs _ _).mono (fun r e c => ?_) (Cert.ReferenceIdeal.Value.run (F := Ideal) m' ρ')
    obtain ⟨h0, h1, hargs⟩ := e c
    obtain ⟨_, ha, hc, hs⟩ := hag c
    refine ⟨h0.trans ?_, h1.trans ?_, hargs⟩
    · rw [ha, hc]; exact Rope.taken_eq (F := Ideal) (m (Rope.aLoc c)) (hpos c) (m (Rope.cLoc c))
    · rw [ha, hs]; exact Rope.taken_eq (F := Ideal) (m (Rope.aLoc c)) (hpos c) (m (Rope.sLoc c))

/-! ## The claim -/

theorem claim : Cert.Claim :=
  ⟨Cert.Kernel.Gen.facts, Cert.KernelIdeal.Gen.facts, Cert.ReferenceIdeal.Gen.facts, Cert.Pre_in_cache.Gen.facts,
    frame_kernel, frame_kernelIdeal, frame_reference, frame_reference_pre, trivial, values⟩

end Cert.Proof

end
